-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x10000 : Shape := ⟨2, ![4096, 10000]⟩
abbrev S4096x8x1000 : Shape := ⟨3, ![4096, 8, 1000]⟩
abbrev S4096x64 : Shape := ⟨2, ![4096, 64]⟩
abbrev S30x10000 : Shape := ⟨2, ![30, 10000]⟩
abbrev S30 : Shape := ⟨1, ![30]⟩
abbrev S10x1000 : Shape := ⟨2, ![10, 1000]⟩
abbrev S10 : Shape := ⟨1, ![10]⟩
abbrev S5x64 : Shape := ⟨2, ![5, 64]⟩
abbrev S5 : Shape := ⟨1, ![5]⟩
abbrev S15x25 : Shape := ⟨2, ![15, 25]⟩
abbrev S15 : Shape := ⟨1, ![15]⟩
abbrev S10000x4096 : Shape := ⟨2, ![10000, 4096]⟩
abbrev S8x1000x4096 : Shape := ⟨3, ![8, 1000, 4096]⟩
abbrev S64x4096 : Shape := ⟨2, ![64, 4096]⟩
abbrev S15x10 : Shape := ⟨2, ![15, 10]⟩
abbrev S15x5 : Shape := ⟨2, ![15, 5]⟩
abbrev S30x1 : Shape := ⟨2, ![30, 1]⟩
abbrev S10x1 : Shape := ⟨2, ![10, 1]⟩
abbrev S5x1 : Shape := ⟨2, ![5, 1]⟩
abbrev S15x1 : Shape := ⟨2, ![15, 1]⟩
abbrev S30x4096 : Shape := ⟨2, ![30, 4096]⟩
abbrev S15x8x4096 : Shape := ⟨3, ![15, 8, 4096]⟩
abbrev S10000x128 : Shape := ⟨2, ![10000, 128]⟩
abbrev S8x1000x128 : Shape := ⟨3, ![8, 1000, 128]⟩
abbrev S64x128 : Shape := ⟨2, ![64, 128]⟩
abbrev S30x128 : Shape := ⟨2, ![30, 128]⟩
abbrev S15x8x128 : Shape := ⟨3, ![15, 8, 128]⟩
abbrev S5x128 : Shape := ⟨2, ![5, 128]⟩
abbrev S15x128 : Shape := ⟨2, ![15, 128]⟩
abbrev S1x1000x128 : Shape := ⟨3, ![1, 1000, 128]⟩
abbrev S1000x128 : Shape := ⟨2, ![1000, 128]⟩
abbrev S10x128 : Shape := ⟨2, ![10, 128]⟩
abbrev S15x1x128 : Shape := ⟨3, ![15, 1, 128]⟩
abbrev S4096x30 : Shape := ⟨2, ![4096, 30]⟩
abbrev S4096x8x15 : Shape := ⟨3, ![4096, 8, 15]⟩

abbrev nBuf : Space → Nat
  | .hbm => 30
  | .vmem => 24
  | .smem => 0
  | _ => 0

abbrev bufTy : (tb : Table) → Fin (tcTables nBuf tb) → BufTy
  | .hbm, ⟨0, _⟩ => ⟨S4096x10000, .f32⟩
  | .hbm, ⟨1, _⟩ => ⟨S4096x8x1000, .f32⟩
  | .hbm, ⟨2, _⟩ => ⟨S4096x8x1000, .f32⟩
  | .hbm, ⟨3, _⟩ => ⟨S4096x64, .f32⟩
  | .hbm, ⟨4, _⟩ => ⟨S30x10000, .f32⟩
  | .hbm, ⟨5, _⟩ => ⟨S30, .f32⟩
  | .hbm, ⟨6, _⟩ => ⟨S10x1000, .f32⟩
  | .hbm, ⟨7, _⟩ => ⟨S10, .f32⟩
  | .hbm, ⟨8, _⟩ => ⟨S10x1000, .f32⟩
  | .hbm, ⟨9, _⟩ => ⟨S10, .f32⟩
  | .hbm, ⟨10, _⟩ => ⟨S5x64, .f32⟩
  | .hbm, ⟨11, _⟩ => ⟨S5, .f32⟩
  | .hbm, ⟨12, _⟩ => ⟨S15x25, .f32⟩
  | .hbm, ⟨13, _⟩ => ⟨S15, .f32⟩
  | .hbm, ⟨14, _⟩ => ⟨S10000x4096, .f32⟩
  | .hbm, ⟨15, _⟩ => ⟨S8x1000x4096, .f32⟩
  | .hbm, ⟨16, _⟩ => ⟨S8x1000x4096, .f32⟩
  | .hbm, ⟨17, _⟩ => ⟨S64x4096, .f32⟩
  | .hbm, ⟨18, _⟩ => ⟨S15x10, .f32⟩
  | .hbm, ⟨19, _⟩ => ⟨S15x10, .f32⟩
  | .hbm, ⟨20, _⟩ => ⟨S15x5, .f32⟩
  | .hbm, ⟨21, _⟩ => ⟨S30x1, .f32⟩
  | .hbm, ⟨22, _⟩ => ⟨S10x1, .f32⟩
  | .hbm, ⟨23, _⟩ => ⟨S10x1, .f32⟩
  | .hbm, ⟨24, _⟩ => ⟨S5x1, .f32⟩
  | .hbm, ⟨25, _⟩ => ⟨S15x1, .f32⟩
  | .hbm, ⟨26, _⟩ => ⟨S30x4096, .f32⟩
  | .hbm, ⟨27, _⟩ => ⟨S15x8x4096, .f32⟩
  | .hbm, ⟨28, _⟩ => ⟨S4096x30, .f32⟩
  | .hbm, ⟨29, _⟩ => ⟨S4096x8x15, .f32⟩
  | .local _ .vmem, ⟨0, _⟩ => ⟨S10000x128, .f32⟩
  | .local _ .vmem, ⟨1, _⟩ => ⟨S10000x128, .f32⟩
  | .local _ .vmem, ⟨2, _⟩ => ⟨S8x1000x128, .f32⟩
  | .local _ .vmem, ⟨3, _⟩ => ⟨S8x1000x128, .f32⟩
  | .local _ .vmem, ⟨4, _⟩ => ⟨S8x1000x128, .f32⟩
  | .local _ .vmem, ⟨5, _⟩ => ⟨S8x1000x128, .f32⟩
  | .local _ .vmem, ⟨6, _⟩ => ⟨S64x128, .f32⟩
  | .local _ .vmem, ⟨7, _⟩ => ⟨S64x128, .f32⟩
  | .local _ .vmem, ⟨8, _⟩ => ⟨S30x10000, .f32⟩
  | .local _ .vmem, ⟨9, _⟩ => ⟨S30x1, .f32⟩
  | .local _ .vmem, ⟨10, _⟩ => ⟨S10x1000, .f32⟩
  | .local _ .vmem, ⟨11, _⟩ => ⟨S10x1, .f32⟩
  | .local _ .vmem, ⟨12, _⟩ => ⟨S10x1000, .f32⟩
  | .local _ .vmem, ⟨13, _⟩ => ⟨S10x1, .f32⟩
  | .local _ .vmem, ⟨14, _⟩ => ⟨S5x64, .f32⟩
  | .local _ .vmem, ⟨15, _⟩ => ⟨S5x1, .f32⟩
  | .local _ .vmem, ⟨16, _⟩ => ⟨S15x10, .f32⟩
  | .local _ .vmem, ⟨17, _⟩ => ⟨S15x10, .f32⟩
  | .local _ .vmem, ⟨18, _⟩ => ⟨S15x5, .f32⟩
  | .local _ .vmem, ⟨19, _⟩ => ⟨S15x1, .f32⟩
  | .local _ .vmem, ⟨20, _⟩ => ⟨S30x128, .f32⟩
  | .local _ .vmem, ⟨21, _⟩ => ⟨S30x128, .f32⟩
  | .local _ .vmem, ⟨22, _⟩ => ⟨S15x8x128, .f32⟩
  | .local _ .vmem, ⟨23, _⟩ => ⟨S15x8x128, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S30x10000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S30x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x1000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S15x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S15x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S15x5 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S15x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S30x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S15x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S4096x10000 : Shape := ⟨2, ![4096, 10000]⟩
abbrev S4096x8x1000 : Shape := ⟨3, ![4096, 8, 1000]⟩
abbrev S4096x64 : Shape := ⟨2, ![4096, 64]⟩
abbrev S30x10000 : Shape := ⟨2, ![30, 10000]⟩
abbrev S30 : Shape := ⟨1, ![30]⟩
abbrev S10x1000 : Shape := ⟨2, ![10, 1000]⟩
abbrev S10 : Shape := ⟨1, ![10]⟩
abbrev S5x64 : Shape := ⟨2, ![5, 64]⟩
abbrev S5 : Shape := ⟨1, ![5]⟩
abbrev S15x25 : Shape := ⟨2, ![15, 25]⟩
abbrev S15 : Shape := ⟨1, ![15]⟩
abbrev S10000x30 : Shape := ⟨2, ![10000, 30]⟩
abbrev S4096x30 : Shape := ⟨2, ![4096, 30]⟩
abbrev S1x30 : Shape := ⟨2, ![1, 30]⟩
abbrev S1000x10 : Shape := ⟨2, ![1000, 10]⟩
abbrev S4096x8x10 : Shape := ⟨3, ![4096, 8, 10]⟩
abbrev S1x1x10 : Shape := ⟨3, ![1, 1, 10]⟩
abbrev S64x5 : Shape := ⟨2, ![64, 5]⟩
abbrev S4096x5 : Shape := ⟨2, ![4096, 5]⟩
abbrev S1x5 : Shape := ⟨2, ![1, 5]⟩
abbrev S4096x1x5 : Shape := ⟨3, ![4096, 1, 5]⟩
abbrev S4096x8x5 : Shape := ⟨3, ![4096, 8, 5]⟩
abbrev S4096x8x25 : Shape := ⟨3, ![4096, 8, 25]⟩
abbrev S25x15 : Shape := ⟨2, ![25, 15]⟩
abbrev S4096x8x15 : Shape := ⟨3, ![4096, 8, 15]⟩
abbrev S1x1x15 : Shape := ⟨3, ![1, 1, 15]⟩

abbrev nBuf : Space → Nat
  | .hbm => 47
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S4096x8x1000, .f32⟩
  | .hbm, ⟨2, _⟩ => ⟨S4096x8x1000, .f32⟩
  | .hbm, ⟨3, _⟩ => ⟨S4096x64, .f32⟩
  | .hbm, ⟨4, _⟩ => ⟨S30x10000, .f32⟩
  | .hbm, ⟨5, _⟩ => ⟨S30, .f32⟩
  | .hbm, ⟨6, _⟩ => ⟨S10x1000, .f32⟩
  | .hbm, ⟨7, _⟩ => ⟨S10, .f32⟩
  | .hbm, ⟨8, _⟩ => ⟨S10x1000, .f32⟩
  | .hbm, ⟨9, _⟩ => ⟨S10, .f32⟩
  | .hbm, ⟨10, _⟩ => ⟨S5x64, .f32⟩
  | .hbm, ⟨11, _⟩ => ⟨S5, .f32⟩
  | .hbm, ⟨12, _⟩ => ⟨S15x25, .f32⟩
  | .hbm, ⟨13, _⟩ => ⟨S15, .f32⟩
  | .hbm, ⟨14, _⟩ => ⟨S10000x30, .f32⟩
  | .hbm, ⟨15, _⟩ => ⟨S4096x30, .f32⟩
  | .hbm, ⟨16, _⟩ => ⟨S1x30, .f32⟩
  | .hbm, ⟨17, _⟩ => ⟨S4096x30, .f32⟩
  | .hbm, ⟨18, _⟩ => ⟨S4096x30, .f32⟩
  | .hbm, ⟨19, _⟩ => ⟨S4096x30, .f32⟩
  | .hbm, ⟨20, _⟩ => ⟨S1000x10, .f32⟩
  | .hbm, ⟨21, _⟩ => ⟨S4096x8x10, .f32⟩
  | .hbm, ⟨22, _⟩ => ⟨S1x1x10, .f32⟩
  | .hbm, ⟨23, _⟩ => ⟨S4096x8x10, .f32⟩
  | .hbm, ⟨24, _⟩ => ⟨S4096x8x10, .f32⟩
  | .hbm, ⟨25, _⟩ => ⟨S4096x8x10, .f32⟩
  | .hbm, ⟨26, _⟩ => ⟨S1000x10, .f32⟩
  | .hbm, ⟨27, _⟩ => ⟨S4096x8x10, .f32⟩
  | .hbm, ⟨28, _⟩ => ⟨S1x1x10, .f32⟩
  | .hbm, ⟨29, _⟩ => ⟨S4096x8x10, .f32⟩
  | .hbm, ⟨30, _⟩ => ⟨S4096x8x10, .f32⟩
  | .hbm, ⟨31, _⟩ => ⟨S4096x8x10, .f32⟩
  | .hbm, ⟨32, _⟩ => ⟨S64x5, .f32⟩
  | .hbm, ⟨33, _⟩ => ⟨S4096x5, .f32⟩
  | .hbm, ⟨34, _⟩ => ⟨S1x5, .f32⟩
  | .hbm, ⟨35, _⟩ => ⟨S4096x5, .f32⟩
  | .hbm, ⟨36, _⟩ => ⟨S4096x5, .f32⟩
  | .hbm, ⟨37, _⟩ => ⟨S4096x5, .f32⟩
  | .hbm, ⟨38, _⟩ => ⟨S4096x1x5, .f32⟩
  | .hbm, ⟨39, _⟩ => ⟨S4096x8x5, .f32⟩
  | .hbm, ⟨40, _⟩ => ⟨S4096x8x25, .f32⟩
  | .hbm, ⟨41, _⟩ => ⟨S25x15, .f32⟩
  | .hbm, ⟨42, _⟩ => ⟨S4096x8x15, .f32⟩
  | .hbm, ⟨43, _⟩ => ⟨S1x1x15, .f32⟩
  | .hbm, ⟨44, _⟩ => ⟨S4096x8x15, .f32⟩
  | .hbm, ⟨45, _⟩ => ⟨S4096x8x15, .f32⟩
  | .hbm, ⟨46, _⟩ => ⟨S4096x8x15, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.Spec.lean ====
/- The functions that both programs compute, over the extended reals, written on plain coordinates. -/
module

public import Idealize.ShloMosaic.PureOps.Ideal

@[expose] public section

noncomputable section

namespace Cert.Math

open Idealize.ShloMosaic

/-- Unit `j` of a dense layer with weights `w`, bias `b` and the hyperbolic tangent, at the input `x`. -/
def layer {J K : Nat} (w : Fin J → Fin K → EReal) (b : Fin J → EReal) (x : Fin K → EReal) (j : Fin J) : EReal :=
  Ideal.tanh ((∑ k, w j k * x k) + b j)

/-- Column `off + j` of the 25 columns of the fusion weights. -/
def col {n : Nat} (off : Nat) (j : Fin n) (h : off + n ≤ 25) : Fin 25 := ⟨off + j.val, by omega⟩

/-- Unit `f` of the fusion layer when its three inputs are kept apart: the first two products are added, then the
    third product with the bias already in it. -/
def fuse (w₁ w₂ : Fin 15 → Fin 10 → EReal) (w₃ : Fin 15 → Fin 5 → EReal) (b : Fin 15 → EReal)
    (u v : Fin 10 → EReal) (d : Fin 5 → EReal) (f : Fin 15) : EReal :=
  Ideal.tanh (((∑ j, w₁ f j * u j) + ∑ j, w₂ f j * v j) + ((∑ j, w₃ f j * d j) + b f))

/-- A dense unit with its products written in the other order. -/
theorem layer_comm {J K : Nat} (w : Fin J → Fin K → EReal) (b : Fin J → EReal) (x : Fin K → EReal) (j : Fin J) :
    Ideal.tanh ((∑ k, x k * w j k) + b j) = layer w b x j :=
  congrArg (fun z => Ideal.tanh (z + b j)) (Finset.sum_congr rfl fun _ _ => mul_comm _ _)

/-- A sum over the 25 columns is the sum over the first ten, the next ten and the last five. -/
theorem sum_split (g : Fin 25 → EReal) :
    ∑ i, g i = ((∑ j : Fin 10, g (col 0 j (by decide))) + ∑ j : Fin 10, g (col 10 j (by decide)))
      + ∑ j : Fin 5, g (col 20 j (by decide)) := by
  rw [show (∑ i, g i) = ∑ i : Fin (10 + 10 + 5), g i from rfl, Fin.sum_univ_add, Fin.sum_univ_add]
  refine congrArg₂ (· + ·) (congrArg₂ (· + ·) (Finset.sum_congr rfl fun j _ => congrArg g (Fin.ext ?_)) rfl) rfl
  exact (Nat.zero_add _).symm

/-- The fusion layer over the 25 joined inputs is the fusion layer with its three inputs kept apart, when the joined
    input `y` holds `u`, `v` and `d` one after the other. -/
theorem fuse_joined (w : Fin 15 → Fin 25 → EReal) (b : Fin 15 → EReal) (y : Fin 25 → EReal) (u v : Fin 10 → EReal)
    (d : Fin 5 → EReal) (f : Fin 15) (hu : ∀ j, y (col 0 j (by decide)) = u j) (hv : ∀ j, y (col 10 j (by decide)) = v j)
    (hd : ∀ j, y (col 20 j (by decide)) = d j) :
    Ideal.tanh ((∑ i, y i * w f i) + b f)
      = fuse (fun f j => w f (col 0 j (by decide))) (fun f j => w f (col 10 j (by decide)))
          (fun f j => w f (col 20 j (by decide))) b u v d f := by
  rw [sum_split, add_assoc]
  simp only [fuse, hu, hv, hd, mul_comm]

end Cert.Math

end
-- ==== Proof.Block.lean ====
/- What the kernel's body leaves in its two output blocks, read at one element. -/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Math
open Idealize.ShloMosaic Idealize.ShloMosaic.TcCoe Idealize.SL Idealize.SL.Sem

variable (x0 : Vec Ideal S10000x128 .f32) (x1 x2 : Vec Ideal S8x1000x128 .f32) (x3 : Vec Ideal S64x128 .f32)
  (x4 : Vec Ideal S30x10000 .f32) (x5 : Vec Ideal S30x1 .f32) (x6 : Vec Ideal S10x1000 .f32) (x7 : Vec Ideal S10x1 .f32)
  (x8 : Vec Ideal S10x1000 .f32) (x9 : Vec Ideal S10x1 .f32) (x10 : Vec Ideal S5x64 .f32) (x11 : Vec Ideal S5x1 .f32)
  (x12 x13 : Vec Ideal S15x10 .f32) (x14 : Vec Ideal S15x5 .f32) (x15 : Vec Ideal S15x1 .f32)

/-- The first output block at row `e` and column `r`: the dense layer of column `r`. -/
theorem out16_apply (e : Fin 30) (r : Fin 128) :
    out0_16 x0 x1 x2 x3 x4 x5 x6 x7 x8 x9 x10 x11 x12 x13 x14 x15 (ix2 e r)
      = layer (fun j k => x4 (ix2 j k)) (fun j => x5 (ix2 j 0)) (fun k => x0 (ix2 k r)) e := by
  frame_out
  pointwise [k0_pay3, layer]

/-- The second output block at unit `f`, time step `t` and column `r`: the fusion layer of that column's step. -/
theorem out17_apply (f : Fin 15) (t : Fin 8) (r : Fin 128) :
    out0_17 x0 x1 x2 x3 x4 x5 x6 x7 x8 x9 x10 x11 x12 x13 x14 x15 (ix3 f t r)
      = fuse (fun f j => x12 (ix2 f j)) (fun f j => x13 (ix2 f j)) (fun f j => x14 (ix2 f j)) (fun f => x15 (ix2 f 0))
          (layer (fun j k => x6 (ix2 j k)) (fun j => x7 (ix2 j 0)) (fun k => x1 (ix3 t k r)))
          (layer (fun j k => x8 (ix2 j k)) (fun j => x9 (ix2 j 0)) (fun k => x2 (ix3 t k r)))
          (layer (fun j k => x10 (ix2 j k)) (fun j => x11 (ix2 j 0)) (fun k => x3 (ix2 k r))) f := by
  canon_tiles x h
  case' piece0 => obtain rfl : t = 7 := Fin.ext (by show (ix3 f t r 1).val = 7; omega)
  case' piece1 => obtain rfl : t = 6 := Fin.ext (by show (ix3 f t r 1).val = 6; omega)
  case' piece2 => obtain rfl : t = 5 := Fin.ext (by show (ix3 f t r 1).val = 5; omega)
  case' piece3 => obtain rfl : t = 4 := Fin.ext (by show (ix3 f t r 1).val = 4; omega)
  case' piece4 => obtain rfl : t = 3 := Fin.ext (by show (ix3 f t r 1).val = 3; omega)
  case' piece5 => obtain rfl : t = 2 := Fin.ext (by show (ix3 f t r 1).val = 2; omega)
  case' piece6 => obtain rfl : t = 1 := Fin.ext (by show (ix3 f t r 1).val = 1; omega)
  case' piece7 => obtain rfl : t = 0 := Fin.ext (by show (ix3 f t r 1).val = 0; omega)
  all_goals
    obtain rfl : f = x 0 := Fin.ext h0
    obtain rfl : r = x 2 := Fin.ext h2
    unfold_payloads
    pointwise [fuse, layer]

end Cert.KernelIdeal.Hand

end
-- ==== Proof.Inputs.lean ====
/- What each input block of the kernel holds, in terms of the arguments of the program. -/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Math
open Idealize.ShloMosaic Idealize.ShloMosaic.TcCoe Idealize.SL Idealize.SL.Sem

/-- The batch row that column `r` of the blocks at grid point `t` stands for. -/
def row (t : Fin cfg0.N) (r : Fin 128) : Fin 4096 :=
  ⟨t.val * 128 + r.val, by have h : t.val < 32 := t.isLt; have h' := r.isLt; omega⟩

/-- The windows cut along the batch move one block per grid point. -/
theorem idx_batch : ∀ t : Fin grid0.N, win0_0.index t = ![0, t.val] ∧ win0_1.index t = ![0, 0, t.val]
    ∧ win0_2.index t = ![0, 0, t.val] ∧ win0_3.index t = ![0, t.val] ∧ win0_16.index t = ![0, t.val]
    ∧ win0_17.index t = ![0, 0, t.val] := by decide +kernel

/-- The weights and biases are read whole at every grid point. -/
theorem idx_whole : ∀ t : Fin grid0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] := by decide +kernel

variable (m : (ℓ : Loc nD τ sig) → Buf (Elt Ideal) ℓ) (c : Dev nD) (t : Fin cfg0.N)

/-- The transposed copy of argument 0 at an element. -/
theorem entry0 (k : Fin 10000) (r : Fin 4096) : V m c main_v0 (ix2 k r) = m ((c.tc : Thread nD τ).loc main_arg0) (ix2 r k) := by
  show StableHlo.after hostOps0 (fun b => m (c, b)) _ _ = _
  after_results
  pointwise

/-- The transposed copy of argument 3 at an element. -/
theorem entry3 (k : Fin 64) (r : Fin 4096) : V m c main_v3 (ix2 k r) = m ((c.tc : Thread nD τ).loc main_arg3) (ix2 r k) := by
  show StableHlo.after hostOps0 (fun b => m (c, b)) _ _ = _
  after_results
  pointwise

/-- The copy of argument 1 with the batch last, at an element. -/
theorem entry1 (s : Fin 8) (k : Fin 1000) (r : Fin 4096) : V m c main_v1 (ix3 s k r) = m ((c.tc : Thread nD τ).loc main_arg1) (ix3 r s k) := by
  show StableHlo.after hostOps0 (fun b => m (c, b)) _ _ = _
  after_results
  pointwise

/-- The copy of argument 2 with the batch last, at an element. -/
theorem entry2 (s : Fin 8) (k : Fin 1000) (r : Fin 4096) : V m c main_v2 (ix3 s k r) = m ((c.tc : Thread nD τ).loc main_arg2) (ix3 r s k) := by
  show StableHlo.after hostOps0 (fun b => m (c, b)) _ _ = _
  after_results
  pointwise

/-- Columns 0 to 9 of argument 12, cut out, at an element. -/
theorem entry4 (f : Fin 15) (j : Fin 10) : V m c main_v4 (ix2 f j) = m ((c.tc : Thread nD τ).loc main_arg12) (ix2 f (col 0 j (by decide))) := by
  show StableHlo.after hostOps0 (fun b => m (c, b)) _ _ = _
  after_results
  pointwise
  exact congrArg _ (congrArg (ix2 f) (Fin.ext (Nat.zero_add _).symm))

/-- Columns 10 to 19 of argument 12, cut out, at an element. -/
theorem entry5 (f : Fin 15) (j : Fin 10) : V m c main_v5 (ix2 f j) = m ((c.tc : Thread nD τ).loc main_arg12) (ix2 f (col 10 j (by decide))) := by
  show StableHlo.after hostOps0 (fun b => m (c, b)) _ _ = _
  after_results
  pointwise [col]

/-- Columns 20 to 24 of argument 12, cut out, at an element. -/
theorem entry6 (f : Fin 15) (j : Fin 5) : V m c main_v6 (ix2 f j) = m ((c.tc : Thread nD τ).loc main_arg12) (ix2 f (col 20 j (by decide))) := by
  show StableHlo.after hostOps0 (fun b => m (c, b)) _ _ = _
  after_results
  pointwise [col]

/-- Argument 5 as one column, at an element. -/
theorem entry7 (j : Fin 30) : V m c main_v7 (ix2 j 0) = m ((c.tc : Thread nD τ).loc main_arg5) (ix1 j) := by
  show StableHlo.after hostOps0 (fun b => m (c, b)) _ _ = _
  after_results
  pointwise

/-- Argument 7 as one column, at an element. -/
theorem entry8 (j : Fin 10) : V m c main_v8 (ix2 j 0) = m ((c.tc : Thread nD τ).loc main_arg7) (ix1 j) := by
  show StableHlo.after hostOps0 (fun b => m (c, b)) _ _ = _
  after_results
  pointwise

/-- Argument 9 as one column, at an element. -/
theorem entry9 (j : Fin 10) : V m c main_v9 (ix2 j 0) = m ((c.tc : Thread nD τ).loc main_arg9) (ix1 j) := by
  show StableHlo.after hostOps0 (fun b => m (c, b)) _ _ = _
  after_results
  pointwise

/-- Argument 11 as one column, at an element. -/
theorem entry10 (j : Fin 5) : V m c main_v10 (ix2 j 0) = m ((c.tc : Thread nD τ).loc main_arg11) (ix1 j) := by
  show StableHlo.after hostOps0 (fun b => m (c, b)) _ _ = _
  after_results
  pointwise

/-- Argument 13 as one column, at an element. -/
theorem entry11 (j : Fin 15) : V m c main_v11 (ix2 j 0) = m ((c.tc : Thread nD τ).loc main_arg13) (ix1 j) := by
  show StableHlo.after hostOps0 (fun b => m (c, b)) _ _ = _
  after_results
  pointwise

/-! ## The blocks -/

/-- The block of window 0: 128 rows of argument 0, transposed. -/
theorem in0 (k : Fin 10000) (r : Fin 128) : iblk m c 0 t (ix2 k r) = m ((c.tc : Thread nD τ).loc main_arg0) (ix2 (row t r) k) := by
  rw [← entry0 m c]
  blk_ext [iblk, idx_batch t, row]

/-- The block of window 3: 128 rows of argument 3, transposed. -/
theorem in3 (k : Fin 64) (r : Fin 128) : iblk m c 3 t (ix2 k r) = m ((c.tc : Thread nD τ).loc main_arg3) (ix2 (row t r) k) := by
  rw [← entry3 m c]
  blk_ext [iblk, idx_batch t, row]

/-- The block of window 1: 128 rows of argument 1, with the batch last. -/
theorem in1 (s : Fin 8) (k : Fin 1000) (r : Fin 128) : iblk m c 1 t (ix3 s k r) = m ((c.tc : Thread nD τ).loc main_arg1) (ix3 (row t r) s k) := by
  rw [← entry1 m c]
  blk_ext [iblk, idx_batch t, row]

/-- The block of window 2: 128 rows of argument 2, with the batch last. -/
theorem in2 (s : Fin 8) (k : Fin 1000) (r : Fin 128) : iblk m c 2 t (ix3 s k r) = m ((c.tc : Thread nD τ).loc main_arg2) (ix3 (row t r) s k) := by
  rw [← entry2 m c]
  blk_ext [iblk, idx_batch t, row]

/-- The block of window 4: the weights of argument 4. -/
theorem in4 (j : Fin 30) (k : Fin 10000) : iblk m c 4 t (ix2 j k) = m ((c.tc : Thread nD τ).loc main_arg4) (ix2 j k) := by
  rw [← V_main_arg4 m c]
  blk_ext [iblk, idx_whole t]

/-- The block of window 6: the weights of argument 6. -/
theorem in6 (j : Fin 10) (k : Fin 1000) : iblk m c 6 t (ix2 j k) = m ((c.tc : Thread nD τ).loc main_arg6) (ix2 j k) := by
  rw [← V_main_arg6 m c]
  blk_ext [iblk, idx_whole t]

/-- The block of window 8: the weights of argument 8. -/
theorem in8 (j : Fin 10) (k : Fin 1000) : iblk m c 8 t (ix2 j k) = m ((c.tc : Thread nD τ).loc main_arg8) (ix2 j k) := by
  rw [← V_main_arg8 m c]
  blk_ext [iblk, idx_whole t]

/-- The block of window 10: the weights of argument 10. -/
theorem in10 (j : Fin 5) (k : Fin 64) : iblk m c 10 t (ix2 j k) = m ((c.tc : Thread nD τ).loc main_arg10) (ix2 j k) := by
  rw [← V_main_arg10 m c]
  blk_ext [iblk, idx_whole t]

/-- The block of window 5: the bias of argument 5 as one column. -/
theorem in5 (j : Fin 30) : iblk m c 5 t (ix2 j 0) = m ((c.tc : Thread nD τ).loc main_arg5) (ix1 j) := by
  rw [← entry7 m c]
  blk_ext [iblk, idx_whole t]

/-- The block of window 7: the bias of argument 7 as one column. -/
theorem in7 (j : Fin 10) : iblk m c 7 t (ix2 j 0) = m ((c.tc : Thread nD τ).loc main_arg7) (ix1 j) := by
  rw [← entry8 m c]
  blk_ext [iblk, idx_whole t]

/-- The block of window 9: the bias of argument 9 as one column. -/
theorem in9 (j : Fin 10) : iblk m c 9 t (ix2 j 0) = m ((c.tc : Thread nD τ).loc main_arg9) (ix1 j) := by
  rw [← entry9 m c]
  blk_ext [iblk, idx_whole t]

/-- The block of window 11: the bias of argument 11 as one column. -/
theorem in11 (j : Fin 5) : iblk m c 11 t (ix2 j 0) = m ((c.tc : Thread nD τ).loc main_arg11) (ix1 j) := by
  rw [← entry10 m c]
  blk_ext [iblk, idx_whole t]

/-- The block of window 15: the bias of argument 13 as one column. -/
theorem in15 (j : Fin 15) : iblk m c 15 t (ix2 j 0) = m ((c.tc : Thread nD τ).loc main_arg13) (ix1 j) := by
  rw [← entry11 m c]
  blk_ext [iblk, idx_whole t]

/-- The block of window 12: columns 0 to 9 of argument 12. -/
theorem in12 (f : Fin 15) (j : Fin 10) : iblk m c 12 t (ix2 f j) = m ((c.tc : Thread nD τ).loc main_arg12) (ix2 f (col 0 j (by decide))) := by
  rw [← entry4 m c]
  blk_ext [iblk, idx_whole t]

/-- The block of window 13: columns 10 to 19 of argument 12. -/
theorem in13 (f : Fin 15) (j : Fin 10) : iblk m c 13 t (ix2 f j) = m ((c.tc : Thread nD τ).loc main_arg12) (ix2 f (col 10 j (by decide))) := by
  rw [← entry5 m c]
  blk_ext [iblk, idx_whole t]

/-- The block of window 14: columns 20 to 24 of argument 12. -/
theorem in14 (f : Fin 15) (j : Fin 5) : iblk m c 14 t (ix2 f j) = m ((c.tc : Thread nD τ).loc main_arg12) (ix2 f (col 20 j (by decide))) := by
  rw [← entry6 m c]
  blk_ext [iblk, idx_whole t]

end Cert.KernelIdeal.Hand

end
-- ==== Proof.Arrays.lean ====
/- What the two output arrays of the kernel hold at the end, and what the program returns. -/
module

public import proofs.«01_k».proof.Proof.Block
public import proofs.«01_k».proof.Proof.Inputs

@[expose] public section

set_option maxRecDepth 16384

noncomputable section

namespace Cert.KernelIdeal.Hand

open Cert.KernelIdeal Cert.KernelIdeal.Gen Cert.Math
open Idealize.ShloMosaic Idealize.ShloMosaic.TcCoe Idealize.SL Idealize.SL.Sem

variable (m : (ℓ : Loc nD τ sig) → Buf (Elt Ideal) ℓ) (c : Dev nD)

/-- The first result at row `r` and unit `e`, from the arguments. -/
def first (r : Fin 4096) (e : Fin 30) : EReal :=
  layer (fun j k => m ((c.tc : Thread nD τ).loc main_arg4) (ix2 j k)) (fun j => m ((c.tc : Thread nD τ).loc main_arg5) (ix1 j))
    (fun k => m ((c.tc : Thread nD τ).loc main_arg0) (ix2 r k)) e

/-- The second result at row `r`, time step `s` and unit `f`, from the arguments. -/
def second (r : Fin 4096) (s : Fin 8) (f : Fin 15) : EReal :=
  fuse (fun f j => m ((c.tc : Thread nD τ).loc main_arg12) (ix2 f (col 0 j (by decide))))
    (fun f j => m ((c.tc : Thread nD τ).loc main_arg12) (ix2 f (col 10 j (by decide))))
    (fun f j => m ((c.tc : Thread nD τ).loc main_arg12) (ix2 f (col 20 j (by decide))))
    (fun f => m ((c.tc : Thread nD τ).loc main_arg13) (ix1 f))
    (layer (fun j k => m ((c.tc : Thread nD τ).loc main_arg6) (ix2 j k)) (fun j => m ((c.tc : Thread nD τ).loc main_arg7) (ix1 j))
      (fun k => m ((c.tc : Thread nD τ).loc main_arg1) (ix3 r s k)))
    (layer (fun j k => m ((c.tc : Thread nD τ).loc main_arg8) (ix2 j k)) (fun j => m ((c.tc : Thread nD τ).loc main_arg9) (ix1 j))
      (fun k => m ((c.tc : Thread nD τ).loc main_arg2) (ix3 r s k)))
    (layer (fun j k => m ((c.tc : Thread nD τ).loc main_arg10) (ix2 j k)) (fun j => m ((c.tc : Thread nD τ).loc main_arg11) (ix1 j))
      (fun k => m ((c.tc : Thread nD τ).loc main_arg3) (ix2 r k))) f

/-- Where the block of the first output at grid point `t` lies in its array. -/
theorem place16 (t : Fin cfg0.N) (e : Fin 30) (r : Fin 128) :
    (win0_16.blk t).view.emb (ix2 e r) = (ix2 e (row t r) : S30x4096.Idx) := by
  blk_ext [idx_batch t, row]

/-- Where the block of the second output at grid point `t` lies in its array. -/
theorem place17 (t : Fin cfg0.N) (f : Fin 15) (s : Fin 8) (r : Fin 128) :
    (win0_17.blk t).view.emb (ix3 f s r) = (ix3 f s (row t r) : S15x8x4096.Idx) := by
  blk_ext [idx_batch t, row]

/-- The first output array holds the first result, transposed. -/
theorem array16 : (dats m 0 c).arrAt 16 cfg0.N = fun i : S30x4096.Idx => first m c (i 1) (i 0) := by
  refine (dats m 0 c).arrAt_eq_of_covers 16 _ (by decide +kernel) fun t hf y => ?_
  blk_simp
  rw [after0_16]
  idx_vars y
  refine ((out16_apply ..).trans ?_).trans
    (congrArg (fun i : S30x4096.Idx => first m c (i 1) (i 0)) (place16 t y0 y1).symm)
  simp only [in0, in4, in5]
  rfl

/-- The second output array holds the second result with its axes in the opposite order. -/
theorem array17 : (dats m 0 c).arrAt 17 cfg0.N = fun i : S15x8x4096.Idx => second m c (i 2) (i 1) (i 0) := by
  refine (dats m 0 c).arrAt_eq_of_covers 17 _ (by decide +kernel) fun t hf y => ?_
  blk_simp
  rw [after0_17]
  idx_vars y
  refine ((out17_apply ..).trans ?_).trans
    (congrArg (fun i : S15x8x4096.Idx => second m c (i 2) (i 1) (i 0)) (place17 t y0 y1 y2).symm)
  simp only [in1, in2, in3, in6, in7, in8, in9, in10, in11, in12, in13, in14, in15]
  rfl

/-- No two windows of the kernel share an array. -/
theorem arrays_distinct : Function.Injective (Pipeline.arrRef spec0) := by decide

/-- The program leaves the first result in `main_v13`. -/
theorem tail13 : Pipeline.afterTail₀ cfgs (dats m) 0 (V0 m) [hostOps1] c main_v13 = fun i : S4096x30.Idx => first m c (i 0) (i 1) := by
  show StableHlo.after hostOps1 _ _ = _
  after_results
  refine (congrArg (transpose S4096x30 [1, 0] · transposes_S30x4096_S4096x30_1_0)
    ((Pipeline.withArrays_arr spec0 arrays_distinct c _ _ 16).trans (array16 m c))).trans ?_
  funext i
  pointwise

/-- The program leaves the second result in `main_v14`. -/
theorem tail14 : Pipeline.afterTail₀ cfgs (dats m) 0 (V0 m) [hostOps1] c main_v14 = fun i : S4096x8x15.Idx => second m c (i 0) (i 1) (i 2) := by
  show StableHlo.after hostOps1 _ _ = _
  after_results
  refine (congrArg (transpose S4096x8x15 [2, 1, 0] · transposes_S15x8x4096_S4096x8x15_2_1_0)
    ((Pipeline.withArrays_arr spec0 arrays_distinct c _ _ 17).trans (array17 m c))).trans ?_
  funext i
  pointwise

/-- From any memory with every counter zero, the program ends with the two results in its two result buffers. -/
theorem run (ρ : Dev nD → PrngReg) :
    θ_run defs (onTc (τ := τ) (main (F := Ideal))) ⟨m, fun _ => 0, ρ⟩ fun r => ∀ c : Dev nD,
      r.2.mem ((c.tc : Thread nD τ).loc main_v13) = (fun i : S4096x30.Idx => first m c (i 0) (i 1))
      ∧ r.2.mem ((c.tc : Thread nD τ).loc main_v14) = fun i : S4096x8x15.Idx => second m c (i 0) (i 1) (i 2) :=
  (θ_run defs _ _).mono
    (fun _ h c => ⟨((h c).2 main_v13 (by decide)).trans (tail13 m c), ((h c).2 main_v14 (by decide)).trans (tail14 m c)⟩)
    (run_main m ρ)

end Cert.KernelIdeal.Hand

end
-- ==== Proof.Reference.lean ====
/- What the reference computes, read at one element. -/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Math
open Idealize.ShloMosaic Idealize.ShloMosaic.TcCoe Idealize.SL Idealize.SL.Sem

variable (x0 : (⟨S4096x10000, .f32⟩ : BufTy).Contents (Elt Ideal)) (x1 x2 : (⟨S4096x8x1000, .f32⟩ : BufTy).Contents (Elt Ideal))
  (x3 : (⟨S4096x64, .f32⟩ : BufTy).Contents (Elt Ideal)) (x4 : (⟨S30x10000, .f32⟩ : BufTy).Contents (Elt Ideal))
  (x5 : (⟨S30, .f32⟩ : BufTy).Contents (Elt Ideal)) (x6 : (⟨S10x1000, .f32⟩ : BufTy).Contents (Elt Ideal))
  (x7 : (⟨S10, .f32⟩ : BufTy).Contents (Elt Ideal)) (x8 : (⟨S10x1000, .f32⟩ : BufTy).Contents (Elt Ideal))
  (x9 : (⟨S10, .f32⟩ : BufTy).Contents (Elt Ideal)) (x10 : (⟨S5x64, .f32⟩ : BufTy).Contents (Elt Ideal))
  (x11 : (⟨S5, .f32⟩ : BufTy).Contents (Elt Ideal)) (x12 : (⟨S15x25, .f32⟩ : BufTy).Contents (Elt Ideal))
  (x13 : (⟨S15, .f32⟩ : BufTy).Contents (Elt Ideal))

/-- The reference's first result at row `r` and unit `e`: the dense layer of that row. -/
theorem first_apply (r : Fin 4096) (e : Fin 30) :
    val_main_v5 (F := Ideal) x0 x4 x5 (ix2 r e)
      = layer (fun j k => x4 (ix2 j k)) (fun j => x5 (ix1 j)) (fun k => x0 (ix2 r k)) e := by
  pointwise [val_main_v5, val_main_v4, val_main_v3, val_main_v2, val_main_v1, val_main_v0]
  exact layer_comm (fun j k => x4 (ix2 j k)) (fun j => x5 (ix1 j)) (fun k => x0 (ix2 r k)) e

/-- The reference's second result at row `r`, time step `s` and unit `f`. -/
theorem second_apply (r : Fin 4096) (s : Fin 8) (f : Fin 15) :
    val_main_v32 (F := Ideal) x1 x2 x3 x6 x7 x8 x9 x10 x11 x12 x13 (ix3 r s f)
      = fuse (fun f j => x12 (ix2 f (col 0 j (by decide)))) (fun f j => x12 (ix2 f (col 10 j (by decide))))
          (fun f j => x12 (ix2 f (col 20 j (by decide)))) (fun f => x13 (ix1 f))
          (layer (fun j k => x6 (ix2 j k)) (fun j => x7 (ix1 j)) (fun k => x1 (ix3 r s k)))
          (layer (fun j k => x8 (ix2 j k)) (fun j => x9 (ix1 j)) (fun k => x2 (ix3 r s k)))
          (layer (fun j k => x10 (ix2 j k)) (fun j => x11 (ix1 j)) (fun k => x3 (ix2 r k))) f := by
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6]
  refine fuse_joined (fun f j => x12 (ix2 f j)) (fun f => x13 (ix1 f)) _ _ _ _ f (fun j => ?_) (fun j => ?_) (fun j => ?_)
  · rw [← layer_comm, dif_pos (by simp only [col]; omega)]
    simp only [col, Nat.zero_add]
  · rw [← layer_comm, dif_neg (by simp only [col]; omega), dif_pos (by simp only [col]; omega)]
    simp only [col, Nat.add_sub_cancel_left]
  · rw [← layer_comm, dif_neg (by simp only [col]; omega), dif_neg (by simp only [col]; omega)]
    simp only [col, show 20 + j.val - 10 - 10 = j.val by omega]

end Cert.ReferenceIdeal.Hand

end
-- ==== Proof.lean ====
/- The proof of the certificate's claim. The frame claims come from the generated runs. The algebraic claim joins the
   kernel's results (`Proof/Arrays.lean`) to the reference's (`Proof/Reference.lean`): both are the same functions of the
   arguments, stated in `Proof/Spec.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Arrays
public import proofs.«01_k».proof.Proof.Reference
public import Idealize.ShloMosaic.Adequacy
public import Idealize.ShloMosaic.Init

@[expose] public section

noncomputable section

namespace Cert.Proof

open Idealize.ShloMosaic Idealize.SL.Sem

/-- The reference ends with its arguments as they were and every counter zero. -/
theorem reference_frame : Cert.quiescent_ReferenceIdeal := fun m g _ =>
  (θ_run _ _ _).mono (fun r h => ⟨fun c => (h c).2.2, sem_eq_zero_of_no_sems (by decide) r.2⟩)
    (Cert.ReferenceIdeal.Value.run m g)

/-- Over the extended reals the kernel and the reference, started on the same arguments, end with the same two results. -/
theorem same_results : Cert.algebraic_KernelIdeal_ReferenceIdeal := by
  intro m g m' g' _ hagree
  refine ⟨fun c => fun i : Cert.KernelIdeal.S4096x30.Idx => Cert.KernelIdeal.Hand.first m c (i 0) (i 1),
    fun c => fun i : Cert.KernelIdeal.S4096x8x15.Idx => Cert.KernelIdeal.Hand.second m c (i 0) (i 1) (i 2), ?_, ?_⟩
  · exact (θ_run _ _ _).mono (fun r h c => ⟨(h.1 c).1, (h.1 c).2, h.2 c⟩)
      (θ_run_and (Cert.KernelIdeal.Hand.run m g) (Cert.KernelIdeal.Gen.unchanged m g))
  · refine (θ_run _ _ _).mono (fun r h c => ⟨(h c).1.trans ?_, (h c).2.1.trans ?_, (h c).2.2⟩)
      (Cert.ReferenceIdeal.Value.run m' g')
    · obtain ⟨h0, -, -, -, h4, h5, -⟩ := hagree c
      rw [h0, h4, h5]
      refine (Cert.ReferenceIdeal.Read.val_main_v5_eq _ _ _).trans (funext fun i => ?_)
      idx_vars i
      exact Cert.ReferenceIdeal.Hand.first_apply ..
    · obtain ⟨-, h1, h2, h3, -, -, h6, h7, h8, h9, h10, h11, h12, h13⟩ := hagree c
      rw [h1, h2, h3, h6, h7, h8, h9, h10, h11, h12, h13]
      refine (Cert.ReferenceIdeal.Read.val_main_v32_eq ..).trans (funext fun i => ?_)
      idx_vars i
      exact Cert.ReferenceIdeal.Hand.second_apply ..

/-- The claim: the three frames, that the printed kernel is the idealized one, and the equality of the results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, same_results⟩

end Cert.Proof

end
